-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_half_log2e" .f32 0xBF38AA3B#32 ((-(2⁻¹ * (Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_on_claimed_pre_finite [hKernelIdeal : Cert.KernelIdeal.Facts] [hReferenceIdeal : Cert.ReferenceIdeal.Facts] [hPre_finite : Cert.Pre_finite.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨1, ![4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v18) i = v0 c i)
          ∧ (∀ i : (⟨1, ![4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v30) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hOn_claimed : Cert.On_claimed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_claimed_pre_finite (hKernelIdeal := hKernelIdeal) (hReferenceIdeal := hReferenceIdeal) (hPre_finite := hPre_finite) (hOn_claimed := hOn_claimed)
-- ==== On_claimed.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

class Facts : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  reducesTo_S4096x4096_S4096_d0 : S4096x4096.ReducesTo [0] S4096
  dot_S4096x256_S256x4096_S4096x4096_1_0_0_1_n_n_wf : DotDims.WF S4096x256 S256x4096 S4096x4096 [1] [0] [0] [1] [] []

variable [Facts]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def fn_part1 {F : FTy → Type} [FloatOps F] (main_v18 : FVec F S4096x4096 .f32) : IVec S4096x4096 1 × IVec S4096 1 :=
  let main_v19 : IVec S4096x4096 32 := iotaInDim S4096x4096 32 0
  let main_v20 : IVec S4096x4096 32 := iotaInDim S4096x4096 32 1
  let main_cst_4 : FVec F S_ .f32 := constant S_ .f32 0x3F800000#32
  let main_v21 : FVec F S4096x4096 .f32 := broadcastInDim S4096x4096 ![] bcast_S_S4096x4096 main_cst_4
  let main_v22 : IVec S4096x4096 1 := cmpf .oge main_v18 main_v21
  let main_cst_5 : FVec F S_ .f32 := constant S_ .f32 0x3F800000#32
  let main_v23 : FVec F S4096x4096 .f32 := broadcastInDim S4096x4096 ![] bcast_S_S4096x4096 main_cst_5
  let main_v24 : FVec F S4096x4096 .f32 := subf main_v23 main_v18
  let main_cst_6 : FVec F S_ .f32 := constant S_ .f32 0x322BCC77#32
  let main_v25 : FVec F S4096x4096 .f32 := broadcastInDim S4096x4096 ![] bcast_S_S4096x4096 main_cst_6
  let main_v26 : IVec S4096x4096 1 := cmpf .oge main_v24 main_v25
  let main_v27 : IVec S4096x4096 1 := ori main_v22 main_v26
  let main_v28 : IVec S4096x4096 1 := cmpi .sgt main_v19 main_v20
  let main_v29 : IVec S4096x4096 1 := ori main_v27 main_v28
  let main_c : IVec S_ 1 := constantI S_ 1 1#1
  let main_v30 : IVec S4096x4096 1 := broadcastInDim S4096x4096 ![] bcast_S_S4096x4096 main_c
  let main_c_7 : IVec S_ 1 := constantI S_ 1 1#1
  let main_v31 : IVec S4096 1 := (fun x v => Host.reduce IntOp.andi x v reducesTo_S4096x4096_S4096_d0 h_S_) main_v29 main_c_7
  (main_v30, main_v31)

def fn {F : FTy → Type} [FloatOps F] (main_arg0 : FVec F S4096x256 .f32) (main_arg1 : FVec F S4096x256 .f32) : IVec S4096x4096 1 × IVec S4096 1 :=
  let main_v0 : FVec F S4096x256 .f32 := mulf main_arg0 main_arg0
  let main_cst : FVec F S_ .f32 := constant S_ .f32 0x00000000#32
  let main_v1 : FVec F S4096 .f32 := (fun x v => Host.reduceAdd x v reducesTo_S4096x256_S4096_d1 h_S_) main_v0 main_cst
  let main_v2 : FVec F S4096x1 .f32 := broadcastInDim S4096x1 ![0] bcast_S4096_S4096x1_0 main_v1
  let main_v3 : FVec F S4096x256 .f32 := mulf main_arg1 main_arg1
  let main_cst_0 : FVec F S_ .f32 := constant S_ .f32 0x00000000#32
  let main_v4 : FVec F S4096 .f32 := (fun x v => Host.reduceAdd x v reducesTo_S4096x256_S4096_d1 h_S_) main_v3 main_cst_0
  let main_v5 : FVec F S1x4096 .f32 := broadcastInDim S1x4096 ![1] bcast_S4096_S1x4096_1 main_v4
  let main_v6 : FVec F S4096x4096 .f32 := broadcastInDim S4096x4096 ![0, 1] bcast_S4096x1_S4096x4096_0_1 main_v2
  let main_v7 : FVec F S4096x4096 .f32 := broadcastInDim S4096x4096 ![0, 1] bcast_S1x4096_S4096x4096_0_1 main_v5
  let main_v8 : FVec F S4096x4096 .f32 := addf main_v6 main_v7
  let main_v9 : FVec F S256x4096 .f32 := (transpose S256x4096 [1, 0] · transposes_S4096x256_S256x4096_1_0) main_arg1
  let main_v10 : FVec F S4096x4096 .f32 := (fun l r => Host.dotGeneral dot_S4096x256_S256x4096_S4096x4096_1_0_0_1_n_n none l r) main_arg0 main_v9
  let main_cst_1 : FVec F S_ .f32 := constant S_ .f32 0x40000000#32
  let main_v11 : FVec F S4096x4096 .f32 := broadcastInDim S4096x4096 ![] bcast_S_S4096x4096 main_cst_1
  let main_v12 : FVec F S4096x4096 .f32 := mulf main_v11 main_v10
  let main_v13 : FVec F S4096x4096 .f32 := subf main_v8 main_v12
  let main_cst_2 : FVec F S_ .f32 := constant S_ .f32 0x00000000#32
  let main_v14 : FVec F S4096x4096 .f32 := broadcastInDim S4096x4096 ![] bcast_S_S4096x4096 main_cst_2
  let main_v15 : FVec F S4096x4096 .f32 := maximumf main_v13 main_v14
  let main_cst_3 : FVec F S_ .f32 := constant S_ .f32 0xBF000000#32
  let main_v16 : FVec F S4096x4096 .f32 := broadcastInDim S4096x4096 ![] bcast_S_S4096x4096 main_cst_3
  let main_v17 : FVec F S4096x4096 .f32 := mulf main_v16 main_v15
  let main_v18 : FVec F S4096x4096 .f32 := Host.exp main_v17
  fn_part1 (F := F) main_v18
-- ==== Pre_finite.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S512x256 : Shape := ⟨2, ![512, 256]⟩
abbrev S512x4096 : Shape := ⟨2, ![512, 4096]⟩
abbrev S4096x384 : Shape := ⟨2, ![4096, 384]⟩
abbrev S4096x1 : Shape := ⟨2, ![4096, 1]⟩
abbrev S4096x128 : Shape := ⟨2, ![4096, 128]⟩
abbrev S512 : Shape := ⟨1, ![512]⟩
abbrev S512x1 : Shape := ⟨2, ![512, 1]⟩
abbrev S512x128 : Shape := ⟨2, ![512, 128]⟩
abbrev S512x384 : Shape := ⟨2, ![512, 384]⟩
abbrev S512x512 : Shape := ⟨2, ![512, 512]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .f32⟩
  | .hbm, ⟨3, _⟩ => ⟨S1x4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S4096, .i1⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S512x4096, .f32⟩
  | .local _ .vmem, ⟨4, _⟩ => ⟨S512x4096, .f32⟩
  | .local _ .vmem, ⟨5, _⟩ => ⟨S1x4096, .i32⟩
  | .local _ .vmem, ⟨6, _⟩ => ⟨S4096x384, .f32⟩
  | .local _ .vmem, ⟨7, _⟩ => ⟨S1x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_call0_v0_1 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_18 : Index := 0#32
  let arg0 : BitVec 32 := BitVec.ofNat 32 (i 0).val
  let c512_i32_17 : BitVec 32 := 512#32
  let v39 : BitVec 32 := Scalar.muli arg0 c512_i32_17
  let v40 : Index := Scalar.indexCast v39
  ![0, v40.toNat]
def k0_off2 (i : grid0.Coords) : Fin 2 → Nat :=
  let c0_22 : Index := 0#32
  let arg0 : BitVec 32 := BitVec.ofNat 32 (i 0).val
  let c512_i32_21 : BitVec 32 := 512#32
  let v50 : BitVec 32 := Scalar.muli arg0 c512_i32_21
  let v51 : Index := Scalar.indexCast v50
  ![0, v51.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "log2e" => some (((Real.log 2)⁻¹ : ℝ) : EReal)
  | "neg_half_log2e" => some ((-(2⁻¹ * (Real.log 2)⁻¹) : ℝ) : EReal)
  | _ => none
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S256x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .i32⟩
  | .hbm, ⟨27, _⟩ => ⟨S4096x4096, .i32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S4096x4096, .i1⟩
  | .hbm, ⟨35, _⟩ => ⟨S4096x4096, .i1⟩
  | .hbm, ⟨36, _⟩ => ⟨S4096x4096, .i32⟩
  | .hbm, ⟨37, _⟩ => ⟨S_, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Ideal.Body.lean ====
module

public import proofs.«01_k».proof.Proof.Gen.KernelIdeal.Frame
public import Idealize.ShloMosaic.Lib.VecWindow

/-! # What one grid point leaves in the windows of the results and in the scratch of augmented columns -/

@[expose] public section

noncomputable section

namespace Cert.Proof.Ideal

open Cert.KernelIdeal Cert.KernelIdeal.Gen

open Idealize.ShloMosaic
open Idealize.ShloMosaic.TcCoe Idealize.ShloMosaic.Tactic
open Idealize.SL.Sem

variable {F : FTy → Type} [FloatOps F] [Named F]

theorem off1_eq : ∀ i : grid0.Coords, k0_off1 i = ![0, 512 * (i 0).val] := by decide +kernel
theorem off2_eq : ∀ i : grid0.Coords, k0_off2 i = ![0, 512 * (i 0).val] := by decide +kernel

/-- The diagonal square of a point's tile: the columns whose numbers are those of the tile's rows. -/
abbrev square (i : grid0.Coords) (K : Vec F S512x4096 .f32) : Vec F S512x512 .f32 :=
  VecWindow.window K (k0_off1 i) S512x512.size (k0_off1_inb i)
/-- The maxima of a point with those of the diagonal square put over them. -/
abbrev patch (i : grid0.Coords) (M : Vec F S1x4096 .f32) (B : Vec F S1x512 .f32) : Vec F S1x4096 .f32 :=
  VecWindow.put M (k0_off2 i) S1x512.size B

/-- The column maxima of a point, from its rows and the augmented columns: over all of the tile's rows right of the
    diagonal square, over the rows above the diagonal in it, and 0 left of it. -/
def maxima (i : grid0.Coords) (x : Vec F S512x256 .f32) (b : Vec F S4096x384 .f32) : Vec F S1x4096 .f32 :=
  patch i (k0_pay1 (k0_pay7 i x b)) (k0_pay2 (square i (k0_pay6 x b)))

section Point

variable (c : Dev nD) (i : grid0.Coords) (M0 : Memref sig .tc .vmem S512x256 .f32) (w0 : M0.IsWhole)
    (M1 : Memref sig .tc .vmem S4096x256 .f32) (w1 : M1.IsWhole) (M2 : Memref sig .tc .vmem S512x4096 .f32) (w2 : M2.IsWhole)
    (M3 : Memref sig .tc .vmem S1x4096 .i32) (w3 : M3.IsWhole) (M4 : Memref sig .tc .vmem S4096x384 .f32) (w4 : M4.IsWhole)
    (M5 : Memref sig .tc .vmem S1x4096 .f32) (w5 : M5.IsWhole)
    (x0 : Vec F S512x256 .f32) (x1 : Vec F S4096x256 .f32)

/-- A load of a whole input window reads the window's contents. -/
theorem load_whole {s : Shape} {e : EltTy} (M : Memref sig .tc .vmem s e) (w : M.IsWhole) (x : Vec F s e) {off : Fin s.rank → ℕ}
    (inb : ∀ a, off a + s.size a ≤ s.size a) :
    View.readAt (Elt F) M.view (Rect.unit off s.size inb).toLoadRect (w.unread x) = x :=
  (View.readAt_full _ _ inb).trans (w.read_unread x)

/-- At the first point the scratch of augmented columns holds those of the point's columns. -/
theorem first_columns : kernelRun0_A.sl.v23 c M1 w1 M4 x1 = k0_pay4 x1 := by
  unfold kernelRun0_A.sl.v23 kernelRun0_A.sl.HS0_1
  exact (View.readCov_full _ _ _ _ _).trans (congrArg k0_pay4 (load_whole M1 w1 x1 _))

theorem first_scratch (h : cond0_0 i) :
    sout0_A_0 c i M0 w0 M1 w1 M2 w2 M3 w3 M4 w4 M5 w5 h x0 x1 = k0_pay4 x1 := by
  unfold sout0_A_0
  exact (View.read_writes_full VS0_0 _ inb_S4096x384_S4096x384_0_0 _ []).trans (congrArg k0_pay4 (load_whole M1 w1 x1 _))

theorem first_tile (h : cond0_0 i) :
    out0_A_2 c i M0 w0 M1 w1 M2 w2 M3 w3 M4 w4 M5 w5 h x0 x1 = k0_pay6 x0 (k0_pay4 x1) := by
  unfold out0_A_2
  refine (View.read_writes_full VO0_2 _ inb_S512x4096_S512x4096_0_0 _ []).trans ?_
  rw [load_whole, first_columns]

theorem first_maxima :
    kernelRun0_A.sl.v57 c i M0 w0 M1 w1 M2 M4 M5 x0 x1 = maxima i x0 (k0_pay4 x1) := by
  unfold kernelRun0_A.sl.v57 kernelRun0_A.sl.HS1_2
  refine (View.readAt_full _ _ _).trans ((View.read_writes_cons_put _ _ _ _ _ rfl).trans ?_)
  refine congrArg₂ (patch i) ?_ ?_
  · refine (View.read_writes_full _ _ _ _ _).trans ?_
    unfold kernelRun0_A.sl.r
    rw [load_whole, first_columns]
  · unfold kernelRun0_A.sl.v41
    refine congrArg k0_pay2 ((View.readAt_unit _ _ _ rfl (k0_off1_inb i)).trans ?_)
    unfold kernelRun0_A.sl.H2_1
    rw [View.read_writes_full, load_whole, first_columns]

theorem first_keep (h : cond0_0 i) :
    out0_A_3 c i M0 w0 M1 w1 M2 w2 M3 w3 M4 w4 M5 w5 h x0 x1 = k0_pay3 k0_pay5 (maxima i x0 (k0_pay4 x1)) := by
  unfold out0_A_3
  refine (View.read_writes_full VO0_3 _ inb_S1x4096_S1x4096_0_0 _ _).trans ?_
  refine congrArg₂ k0_pay3 ?_ (first_maxima c i M0 w0 M1 w1 M2 M4 M5 x0 x1)
  unfold kernelRun0_A.sl.v55 kernelRun0_A.sl.H3_1
  exact View.readCov_full _ _ _ _ _

variable (k : Vec F S1x4096 .i32) (b : Vec F S4096x384 .f32)

theorem later_tile (h : ¬cond0_0 i) :
    out0_B_2 c i M0 w0 M1 w1 M2 w2 M3 w3 M4 w4 M5 w5 h x0 x1 k b = k0_pay6 x0 b := by
  unfold out0_B_2
  refine (View.read_writes_full VO0_2 _ inb_S512x4096_S512x4096_0_0 _ []).trans ?_
  rw [load_whole, load_whole]

theorem later_maxima :
    kernelRun0_B.sl.v57 c i M0 w0 M2 M4 w4 M5 x0 b = maxima i x0 b := by
  unfold kernelRun0_B.sl.v57 kernelRun0_B.sl.HS1_2
  refine (View.readAt_full _ _ _).trans ((View.read_writes_cons_put _ _ _ _ _ rfl).trans ?_)
  refine congrArg₂ (patch i) ?_ ?_
  · refine (View.read_writes_full _ _ _ _ _).trans ?_
    unfold kernelRun0_B.sl.r
    rw [load_whole, load_whole]
  · unfold kernelRun0_B.sl.v41
    refine congrArg k0_pay2 ((View.readAt_unit _ _ _ rfl (k0_off1_inb i)).trans ?_)
    unfold kernelRun0_B.sl.H2_1
    rw [View.read_writes_full, load_whole, load_whole]

theorem later_keep (h : ¬cond0_0 i) :
    out0_B_3 c i M0 w0 M1 w1 M2 w2 M3 w3 M4 w4 M5 w5 h x0 x1 k b = k0_pay3 k (maxima i x0 b) := by
  unfold out0_B_3
  refine (View.read_writes_full VO0_3 _ inb_S1x4096_S1x4096_0_0 _ _).trans ?_
  exact congrArg₂ k0_pay3 (load_whole M3 w3 k _) (later_maxima c i M0 w0 M2 M4 w4 M5 x0 b)

end Point

end Cert.Proof.Ideal

end
-- ==== Proof.Ideal.Run.lean ====
module

public import proofs.«01_k».proof.Proof.Ideal.Body

/-! # What the windows hold after a point

The scratch of augmented columns is filled at the first point and stays. A tile is that of its own rows and those
columns; a keep word is the conjunction of the words of the points so far. -/

@[expose] public section

noncomputable section

namespace Cert.Proof.Ideal

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- The augmented columns, of all the rows of the second argument. -/
def columns (c : Dev nD) : Vec F S4096x384 .f32 := k0_pay4 (iblk m c 1 ⟨0, by decide⟩)

/-- The keep words after point `n`. -/
def keepAt (c : Dev nD) : (n : ℕ) → n < cfg0.N → Vec F S1x4096 .i32
  | 0, h => k0_pay3 k0_pay5 (maxima (grid0.coords ⟨0, h⟩) (iblk m c 0 ⟨0, h⟩) (columns m c))
  | n + 1, h => k0_pay3 (keepAt c n (by omega)) (maxima (grid0.coords ⟨n + 1, h⟩) (iblk m c 0 ⟨n + 1, h⟩) (columns m c))

/-- What the point's windows hold after it, and the scratch. -/
theorem after_point (c : Dev nD) : ∀ (n : ℕ) (h : n < cfg0.N),
    outsAt0 m c n h = (k0_pay6 (iblk m c 0 ⟨n, h⟩) (columns m c), keepAt m c n h, columns m c)
  | 0, h => by
    rw [outsAt0_A m c ⟨0, h⟩ rfl, first_tile, first_keep, first_scratch]
    rfl
  | n + 1, h => by
    have hN : n + 1 < 8 := lt_of_lt_of_eq h N_0
    have e := outsAt0_B m c ⟨n + 1, h⟩ (by show ¬(n + 1) % 8 = 0; omega)
    rw [e, later_tile, later_keep, sout0_B_0]
    simp only [Nat.add_sub_cancel, after_point c n (by omega)]
    rfl

end Cert.Proof.Ideal

end
-- ==== Proof.Gauss.lean ====
module

public import Idealize.ShloMosaic.PureOps.Ideal
public import Idealize.ShloMosaic.Lib.Pointwise

/-! # The Gaussian of two rows

For rows `a` and `b` of finite numbers, the number `exp (-|a - b|² / 2)`, and the two ways of computing it: from the three sums
`|a|²`, `|b|²`, `a·b` with the square distance cut at zero, and as a power of two whose exponent is one sum of products. -/

@[expose] public section

noncomputable section

namespace Cert.Proof.Gauss

open Idealize.ShloMosaic

variable {D : ℕ}

/-- `exp (-|a - b|² / 2)`. -/
def gauss (a b : Fin D → ℝ) : ℝ := Real.exp (-(2⁻¹ * ∑ k, (a k - b k) * (a k - b k)))

theorem sq_dist (a b : Fin D → ℝ) :
    ∑ k, (a k - b k) * (a k - b k) = ∑ k, a k * a k + ∑ k, b k * b k - 2 * ∑ k, a k * b k := by
  rw [Finset.mul_sum, ← Finset.sum_add_distrib, ← Finset.sum_sub_distrib]
  exact Finset.sum_congr rfl fun k _ => by ring

theorem sq_dist_nonneg (a b : Fin D → ℝ) : 0 ≤ ∑ k, (a k - b k) * (a k - b k) :=
  Finset.sum_nonneg fun _ _ => mul_self_nonneg _

theorem coe_sum {ι : Type} (s : Finset ι) (f : ι → ℝ) : ∑ k ∈ s, ((f k : ℝ) : EReal) = ((∑ k ∈ s, f k : ℝ) : EReal) :=
  (map_sum (⟨⟨Real.toEReal, EReal.coe_zero⟩, EReal.coe_add⟩ : ℝ →+ EReal) f s).symm

/-- The exponential of minus half the square distance, the distance from three sums and cut at zero. -/
theorem exp_form (a b : Fin D → EReal) (A B : Fin D → ℝ) (ha : ∀ k, a k = A k) (hb : ∀ k, b k = B k) :
    Ideal.exp (((-2⁻¹ : ℝ) : EReal) * max (∑ k, a k * a k + ∑ k, b k * b k - ((2 : ℝ) : EReal) * ∑ k, a k * b k) 0)
      = ((gauss A B : ℝ) : EReal) := by
  simp only [ha, hb, ← EReal.coe_mul, coe_sum, ← EReal.coe_add, ← EReal.coe_sub]
  rw [← sq_dist, max_eq_left (EReal.coe_nonneg.mpr (sq_dist_nonneg A B)), ← EReal.coe_mul, Ideal.exp_coe, gauss, neg_mul]

/-- A power of two whose exponent is the scaled product and the two scaled square norms. -/
theorem exp2_form (a b : Fin D → EReal) (A B : Fin D → ℝ) (ha : ∀ k, a k = A k) (hb : ∀ k, b k = B k) :
    Ideal.exp2 (∑ k, a k * (((Real.log 2)⁻¹ : ℝ) : EReal) * b k
        + (((-(2⁻¹ * (Real.log 2)⁻¹) : ℝ) : EReal) * ∑ k, a k * a k + ((-(2⁻¹ * (Real.log 2)⁻¹) : ℝ) : EReal) * ∑ k, b k * b k))
      = ((gauss A B : ℝ) : EReal) := by
  simp only [ha, hb, ← EReal.coe_mul, coe_sum, ← EReal.coe_add]
  rw [Ideal.exp2_coe, gauss, sq_dist]
  refine congrArg _ ((Real.rpow_def_of_pos two_pos _).trans (congrArg Real.exp ?_))
  have h2 : Real.log 2 ≠ 0 := (Real.log_pos one_lt_two).ne'
  have e : ∑ k, A k * (Real.log 2)⁻¹ * B k = (Real.log 2)⁻¹ * ∑ k, A k * B k := by
    rw [Finset.mul_sum]; exact Finset.sum_congr rfl fun k _ => by ring
  rw [e]
  field_simp
  ring

end Cert.Proof.Gauss

end
-- ==== Proof.Ideal.Tile.lean ====
module

public import proofs.«01_k».proof.Proof.Gen.KernelIdeal.Skeleton
public import proofs.«01_k».proof.Proof.Gauss
public import Idealize.ShloMosaic.Lib.Pointwise

/-! # One tile at an index

Both operands of the product carry 128 extra lanes after the 256 of a row: on the left `(n, 1, 0, …)` and on the right
`(1, n', 0, …)`, with `n` and `n'` the scaled square norms of the two rows. So the product's extra lanes add `n + n'`. -/

@[expose] public section

noncomputable section

namespace Cert.Proof.Ideal

open Cert.KernelIdeal Cert.KernelIdeal.Gen
open Idealize.ShloMosaic Cert.Proof.Gauss

theorem nhl : Named.named (F := Ideal) Cert.KernelIdeal.κ "neg_half_log2e" (φ := .f32) 0xBF38AA3B#32 = ((-(2⁻¹ * (Real.log 2)⁻¹) : ℝ) : EReal) :=
  IdealRules.named_const.ideal_named_scalar _ _ _ _ rfl
theorem l2e : Named.named (F := Ideal) Cert.KernelIdeal.κ "log2e" (φ := .f32) 0x3FB8AA3B#32 = (((Real.log 2)⁻¹ : ℝ) : EReal) :=
  IdealRules.named_const.ideal_named_scalar _ _ _ _ rfl

/-- The scaled square norm of row `r`. -/
def norm {n : ℕ} (v : Vec Ideal ⟨2, ![n, 256]⟩ .f32) (r : Fin n) : EReal :=
  ((-(2⁻¹ * (Real.log 2)⁻¹) : ℝ) : EReal) * ∑ k : Fin 256, v (ix2 r k) * v (ix2 r k)

/-- A choice on the lane's number. -/
theorem select_lane {α : Type} (l w : ℕ) (hl : l < 128) (hw : w < 128) (x y : α) :
    Scalar.select (IntOp.cmpi CmpIPredicate.eq (BitVec.ofNat 32 l) (BitVec.ofNat 32 w)) x y = if l = w then x else y := by
  have e : (BitVec.ofNat 32 l == BitVec.ofNat 32 w) = decide (l = w) := by
    rw [Bool.eq_iff_iff, beq_iff_eq, decide_eq_true_iff, ← BitVec.toNat_inj, BitVec.toNat_ofNat, BitVec.toNat_ofNat]
    omega
  by_cases h : l = w
  · subst h; simp [Scalar.select, IntOp.cmpi]
  · simp [Scalar.select, IntOp.cmpi, e, h]

/-- The extra lanes add the two norms. -/
theorem extra_lanes (p q : EReal) :
    ∑ x : Fin 128, (if x.val = 0 then p else if x.val = 1 then 1 else 0) * (if x.val = 0 then 1 else if x.val = 1 then q else 0) = p + q := by
  rw [Fin.sum_univ_succ, Fin.sum_univ_succ, Finset.sum_eq_zero fun x _ => ?_]
  · simp
  · simp

theorem pay4_left (v : Vec Ideal S4096x256 .f32) (c : Fin 4096) (k : Fin 256) (h : k.val < 384) :
    k0_pay4 v (ix2 c ⟨k.val, h⟩) = v (ix2 c k) := by
  pointwise [k0_pay4, nhl]

theorem pay4_right (v : Vec Ideal S4096x256 .f32) (c : Fin 4096) (k : Fin 128) (h : 256 + k.val < 384) :
    k0_pay4 v (ix2 c ⟨256 + k.val, h⟩) = if k.val = 0 then 1 else if k.val = 1 then norm v c else 0 := by
  pointwise [k0_pay4, nhl]
  rw [select_lane _ 0 k.isLt (by omega), select_lane _ 1 k.isLt (by omega)]
  rfl

/-- One entry of the tile: a power of two whose exponent is the scaled product of the two rows plus their scaled norms. -/
theorem tile_at (v : Vec Ideal S512x256 .f32) (w : Vec Ideal S4096x256 .f32) (r : Fin 512) (c : Fin 4096) :
    k0_pay6 v (k0_pay4 w) (ix2 r c)
      = Ideal.exp2 (∑ k : Fin 256, v (ix2 r k) * (((Real.log 2)⁻¹ : ℝ) : EReal) * w (ix2 c k) + (norm v r + norm w c)) := by
  pointwise [k0_pay6, nhl, l2e]
  simp only [pay4_left, pay4_right, select_lane _ 0 (Fin.isLt _) (by omega : 0 < 128), select_lane _ 1 (Fin.isLt _) (by omega : 1 < 128)]
  rw [← extra_lanes (norm v r) (norm w c)]
  rfl

/-- With finite entries it is the Gaussian of the two rows. -/
theorem tile_gauss (v : Vec Ideal S512x256 .f32) (w : Vec Ideal S4096x256 .f32) (r : Fin 512) (c : Fin 4096) (A B : Fin 256 → ℝ)
    (hA : ∀ k, v (ix2 r k) = A k) (hB : ∀ k, w (ix2 c k) = B k) :
    k0_pay6 v (k0_pay4 w) (ix2 r c) = ((gauss A B : ℝ) : EReal) :=
  (tile_at v w r c).trans (exp2_form _ _ A B hA hB)

end Cert.Proof.Ideal

end
-- ==== Proof.Words.lean ====
module

public import Idealize.ShloMosaic.PureOps
public import Idealize.ShloMosaic.Lib.Affine

/-! # Signed comparisons of small numbers as words -/

@[expose] public section

namespace Cert.Proof.Words

open Idealize.ShloMosaic

theorem toInt_small (a : ℕ) (h : a < 2 ^ 31) : (BitVec.ofNat 32 a).toInt = (a : ℤ) := by
  have e : (BitVec.ofNat 32 a).toNat = a := by rw [BitVec.toNat_ofNat]; omega
  rw [BitVec.toInt_eq_toNat_of_lt (by rw [e]; omega), e]

theorem sle_small (a b : ℕ) (ha : a < 2 ^ 31) (hb : b < 2 ^ 31) :
    BitVec.sle (BitVec.ofNat 32 a) (BitVec.ofNat 32 b) = decide (a ≤ b) := by
  unfold BitVec.sle
  rw [toInt_small a ha, toInt_small b hb]
  exact decide_eq_decide.2 Int.ofNat_le

theorem cmpi_sle (a b : ℕ) (ha : a < 2 ^ 31) (hb : b < 2 ^ 31) :
    IntOp.cmpi CmpIPredicate.sle (BitVec.ofNat 32 a) (BitVec.ofNat 32 b) = BitVec.ofBool (decide (a ≤ b)) := by
  rw [← sle_small a b ha hb]
  rfl

theorem cmpi_sge (a b : ℕ) (ha : a < 2 ^ 31) (hb : b < 2 ^ 31) :
    IntOp.cmpi CmpIPredicate.sge (BitVec.ofNat 32 a) (BitVec.ofNat 32 b) = BitVec.ofBool (decide (b ≤ a)) := by
  rw [← sle_small b a hb ha]
  rfl

theorem cmpi_sgt (a b : ℕ) (ha : a < 2 ^ 31) (hb : b < 2 ^ 31) :
    IntOp.cmpi CmpIPredicate.sgt (BitVec.ofNat 32 a) (BitVec.ofNat 32 b) = BitVec.ofBool (decide (b < a)) := by
  show BitVec.ofBool (BitVec.slt (BitVec.ofNat 32 b) (BitVec.ofNat 32 a)) = _
  unfold BitVec.slt
  rw [toInt_small a ha, toInt_small b hb]
  exact congrArg BitVec.ofBool (decide_eq_decide.2 Int.ofNat_lt)

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem select_sle {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  rw [cmpi_sle a b ha hb, select_ofBool]

theorem select_sge {α : Type} (a b : ℕ) (ha : a < 2 ^ 31) (hb : b < 2 ^ 31) (x y : α) :
    Scalar.select (IntOp.cmpi CmpIPredicate.sge (BitVec.ofNat 32 a) (BitVec.ofNat 32 b)) x y = if b ≤ a then x else y := by
  rw [cmpi_sge a b ha hb, select_ofBool]

end Cert.Proof.Words
-- ==== Proof.Consts.lean ====
module

public import Idealize.ShloMosaic.PureOps.Ideal

/-! # The numbers that the printed constants denote -/

@[expose] public section

noncomputable section

namespace Cert.Proof.Consts

open Idealize.ShloMosaic

theorem neg_half : Ideal.ofBits .f32 0xBF000000#32 = ((-2⁻¹ : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem infinity : Ideal.ofBits .f32 0x7F800000#32 = ⊤ := by
  simp [Ideal.ofBits, Ideal.ieee]

theorem negative_infinity : Ideal.ofBits .f32 0xFF800000#32 = ⊥ := by
  simp [Ideal.ofBits, Ideal.ieee]

end Cert.Proof.Consts

end
-- ==== Proof.Ideal.Mask.lean ====
module

public import proofs.«01_k».proof.Proof.Ideal.Run
public import proofs.«01_k».proof.Proof.Words
public import proofs.«01_k».proof.Proof.Consts
public import Idealize.ShloMosaic.Lib.Pointwise

/-! # The keep words of a point, column by column

A point's maximum at column `c` is taken over the tile's rows whose numbers are at most `c`: all of them right of the
diagonal square, a part of them in it, none left of it (where a 0 stands instead). So it is below 1 exactly when all of
those entries are, and the keep word after some points is 1 exactly when all of their maxima are. -/

@[expose] public section

noncomputable section

namespace Cert.Proof.Ideal

open Cert.KernelIdeal Cert.KernelIdeal.Gen
open Idealize.ShloMosaic Idealize.ShloMosaic.TcCoe Idealize.SL.Sem

theorem point_lt (i : grid0.Coords) : (i 0).val < 8 := (i 0).isLt

/-- The maximum of a fold from minus infinity is below 1 exactly when all its terms are. -/
theorem fold_lt_one {n : ℕ} (f : Fin n → EReal) :
    Finset.fold max (Ideal.ofBits FTy.f32 0xFF800000#32) f Finset.univ < (1 : EReal) ↔ ∀ r, f r < 1 := by
  rw [Finset.fold_max_lt, Consts.negative_infinity]
  exact ⟨fun h r => h.2 r (Finset.mem_univ r), fun h => ⟨EReal.bot_lt_coe 1, fun r _ => h r⟩⟩

/-- The maxima before those of the diagonal square are put over them. -/
theorem outside_lt (i : grid0.Coords) (x : Vec Ideal S512x256 .f32) (b : Vec Ideal S4096x384 .f32) (c : Fin 4096) :
    k0_pay1 (k0_pay7 i x b) (ix2 0 c) < (1 : EReal) ↔ (512 * ((i 0).val + 1) ≤ c.val → ∀ r : Fin 512, k0_pay6 x b (ix2 r c) < (1 : EReal)) := by
  pointwise [k0_pay1, k0_pay7]
  have hw : Scalar.muli (Scalar.addi (BitVec.ofNat 32 (i 0).val) 1#32) 512#32 = BitVec.ofNat 32 (512 * ((i 0).val + 1)) := by
    have := point_lt i
    unfold Scalar.muli Scalar.addi IntOp.muli IntOp.addi
    apply BitVec.eq_of_toNat_eq
    simp only [BitVec.toNat_mul, BitVec.toNat_add, BitVec.toNat_ofNat]
    omega
  rw [hw, Words.select_sge _ _ (by have := c.isLt; omega) (by have := point_lt i; omega)]
  split
  · rename_i h
    rw [fold_lt_one]
    exact ⟨fun k _ => k, fun k => k h⟩
  · rename_i h
    exact ⟨fun _ k => absurd k h, fun _ => by norm_num⟩

/-- The maxima of the diagonal square. -/
theorem inside_lt (K : Vec Ideal S512x512 .f32) (c : Fin 512) :
    k0_pay2 K (ix2 0 c) < (1 : EReal) ↔ ∀ r : Fin 512, r.val ≤ c.val → K (ix2 r c) < (1 : EReal) := by
  pointwise [k0_pay2]
  rw [fold_lt_one]
  refine forall_congr' fun r => ?_
  rw [Words.select_sle _ _ (by have := r.isLt; omega) (by have := c.isLt; omega)]
  split
  · rename_i h
    exact ⟨fun k _ => k, fun k => k h⟩
  · rename_i h
    exact ⟨fun _ k => absurd k h, fun _ => by norm_num⟩

/-- A point's maximum at column `c` is below 1 exactly when the entries of its tile at the rows numbered at most `c` are. -/
theorem maxima_lt (i : grid0.Coords) (x : Vec Ideal S512x256 .f32) (b : Vec Ideal S4096x384 .f32) (c : Fin 4096) :
    maxima i x b (ix2 0 c) < (1 : EReal) ↔ ∀ r : Fin 512, 512 * (i 0).val + r.val ≤ c.val → k0_pay6 x b (ix2 r c) < (1 : EReal) := by
  have hc := c.isLt
  have h0 : k0_off2 i 0 = 0 := congrFun (off2_eq i) 0
  have h1 : k0_off2 i 1 = 512 * (i 0).val := congrFun (off2_eq i) 1
  have g0 : k0_off1 i 0 = 0 := congrFun (off1_eq i) 0
  have g1 : k0_off1 i 1 = 512 * (i 0).val := congrFun (off1_eq i) 1
  unfold maxima patch VecWindow.put
  split
  · rename_i h
    have hl : 512 * (i 0).val ≤ c.val := h1 ▸ (h 1).1
    have hr : c.val < 512 * (i 0).val + 512 := h1 ▸ (h 1).2
    have e : Rect.unitLocal (s := S1x4096) (off := k0_off2 i) (size := S1x512.size) (ix2 0 c) h = ix2 0 (⟨c.val - 512 * (i 0).val, by omega⟩ : Fin 512) := by
      funext a
      match a with
      | ⟨0, _⟩ => exact Fin.ext (by show 0 - k0_off2 i 0 = 0; omega)
      | ⟨1, _⟩ => exact Fin.ext (by show c.val - k0_off2 i 1 = c.val - 512 * (i 0).val; rw [h1])
    rw [e]
    refine (inside_lt _ _).trans (forall_congr' fun r => ?_)
    have ez : square i (k0_pay6 x b) (ix2 r (⟨c.val - 512 * (i 0).val, by omega⟩ : Fin 512)) = k0_pay6 x b (ix2 r c) := by
      refine congrArg (k0_pay6 x b) (funext fun a => ?_)
      match a with
      | ⟨0, _⟩ => exact Fin.ext (by show k0_off1 i 0 + 1 * r.val = r.val; omega)
      | ⟨1, _⟩ => exact Fin.ext (by show k0_off1 i 1 + 1 * (c.val - 512 * (i 0).val) = c.val; omega)
    rw [ez]
    refine imp_congr_left ?_
    show r.val ≤ c.val - 512 * (i 0).val ↔ _
    omega
  · rename_i h
    have ho : ¬(512 * (i 0).val ≤ c.val ∧ c.val < 512 * (i 0).val + 512) := fun k => h fun a => by
      match a with
      | ⟨0, _⟩ => exact ⟨by show k0_off2 i 0 ≤ 0; omega, by show 0 < k0_off2 i 0 + 1; omega⟩
      | ⟨1, _⟩ => exact ⟨by show k0_off2 i 1 ≤ c.val; omega, by show c.val < k0_off2 i 1 + 512; omega⟩
    rw [outside_lt]
    refine ⟨fun k r hr => k (by have := r.isLt; omega) r, fun k hk r => k r (by have := r.isLt; omega)⟩

/-- The word 1 or 0 of a proposition. -/
def word (p : Prop) : BitVec 32 := open Classical in if p then 1#32 else 0#32

theorem keep_first (M : Vec Ideal S1x4096 .f32) (c : Fin 4096) : k0_pay3 k0_pay5 M (ix2 0 c) = word (M (ix2 0 c) < (1 : EReal)) := by
  pointwise [k0_pay3, k0_pay5]
  unfold word
  by_cases h : M (ix2 0 c) < (1 : EReal)
  · rw [if_pos h, decide_eq_true h]; rfl
  · rw [if_neg h, decide_eq_false h]; rfl

theorem keep_next (Y : Vec Ideal S1x4096 .i32) (M : Vec Ideal S1x4096 .f32) (c : Fin 4096) (p : Prop) (hY : Y (ix2 0 c) = word p) :
    k0_pay3 Y M (ix2 0 c) = word (p ∧ M (ix2 0 c) < (1 : EReal)) := by
  pointwise [k0_pay3]
  rw [hY]
  unfold word
  by_cases hp : p <;> by_cases h : M (ix2 0 c) < (1 : EReal)
  · rw [if_pos hp, if_pos ⟨hp, h⟩, decide_eq_true h]; rfl
  · rw [if_pos hp, if_neg fun k => h k.2, decide_eq_false h]; rfl
  · rw [if_neg hp, if_neg fun k => hp k.1, decide_eq_true h]; rfl
  · rw [if_neg hp, if_neg fun k => hp k.1, decide_eq_false h]; rfl

variable (m : (ℓ : Loc nD τ sig) → Buf (Elt Ideal) ℓ)

/-- The keep word of column `l` after point `n`. -/
theorem keepAt_eq (c : Dev nD) (l : Fin 4096) : ∀ (n : ℕ) (h : n < cfg0.N), keepAt m c n h (ix2 0 l)
    = word (∀ (s : ℕ) (hs : s < cfg0.N), s ≤ n → maxima (grid0.coords ⟨s, hs⟩) (iblk m c 0 ⟨s, hs⟩) (columns m c) (ix2 0 l) < (1 : EReal))
  | 0, h => by
    refine (keep_first _ l).trans (congrArg word (propext ⟨fun k s hs e => ?_, fun k => k 0 h (le_refl 0)⟩))
    obtain rfl : s = 0 := Nat.le_zero.1 e
    exact k
  | n + 1, h => by
    refine (keep_next _ _ l _ (keepAt_eq c l n (by omega))).trans (congrArg word (propext ⟨fun k s hs e => ?_, fun k => ⟨fun s hs e => k s hs (by omega), k _ h (le_refl _)⟩⟩))
    rcases Nat.lt_or_ge n s with e' | e'
    · obtain rfl : s = n + 1 := by omega
      exact k.2
    · exact k.1 s hs e'

end Cert.Proof.Ideal

end
-- ==== Proof.Ideal.Value.lean ====
module

public import proofs.«01_k».proof.Proof.Ideal.Run
public import proofs.«01_k».proof.Proof.Ideal.Tile
public import proofs.«01_k».proof.Proof.Ideal.Mask
public import Idealize.ShloMosaic.Lib.Pipeline.ValueKit

/-! # The two arrays the grid leaves, entry by entry

Tile `t` of the first covers rows `512 t …` and all columns; it is computed from those rows of the first argument and all
rows of the second, so entry `(r, c)` is the Gaussian of row `r` of the first and row `c` of the second. The second array
is written once, by the last point: word `c` is 1 exactly when the Gaussians in column `c` at rows up to `c` are below 1. -/

@[expose] public section

noncomputable section

namespace Cert.Proof.Ideal

open Cert.KernelIdeal Cert.KernelIdeal.Gen
open Idealize.ShloMosaic Idealize.ShloMosaic.TcCoe Cert.Proof.Gauss
open Idealize.ShloMosaic.Pipeline (Dat Cfg Window)

variable (m : (ℓ : Loc nD τ sig) → Buf (Elt Ideal) ℓ)

/-- The real numbers of row `r`. -/
def row (x : Vec Ideal S4096x256 .f32) (r : Fin 4096) : Fin 256 → ℝ := fun k => EReal.toReal (x (ix2 r k))

/-- The matrix of Gaussians of the rows of two arrays. -/
def gaussMatrix (x1 x2 : Vec Ideal S4096x256 .f32) : Vec Ideal S4096x4096 .f32 :=
  fun j => ((gauss (row x1 (j 0)) (row x2 (j 1)) : ℝ) : EReal)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem coords_val : ∀ t : Fin cfg0.N, (grid0.coords t 0).val = t.val := (by decide +kernel : ∀ t : Fin grid0.N, _)

section Arrays

variable (c : Dev nD)
    (h1 : ∀ i, m ((c.tc : Thread nD τ).loc main_arg0) i = ((EReal.toReal (m ((c.tc : Thread nD τ).loc main_arg0) i) : ℝ) : EReal))
    (h2 : ∀ i, m ((c.tc : Thread nD τ).loc main_arg1) i = ((EReal.toReal (m ((c.tc : Thread nD τ).loc main_arg1) i) : ℝ) : EReal))

/-- Every point reads all rows of the second argument. -/
theorem whole_columns (t : Fin cfg0.N) (l : Fin 4096) (k : Fin 256) : iblk m c 1 t (ix2 l k) = m ((c.tc : Thread nD τ).loc main_arg1) (ix2 l k) := by
  have e : (win0_1.blk t).view.emb (ix2 l k) = ix2 l k := by
    blk_ext [index1]
  blk_simp [iblk]
  rw [e]
  rfl

include h1 h2 in
/-- One entry of tile `t`. -/
theorem tile_entry (t : Fin cfg0.N) (r : Fin 512) (l R : Fin 4096) (hR : R.val = 512 * t.val + r.val) :
    k0_pay6 (iblk m c 0 t) (columns m c) (ix2 r l)
      = ((gauss (row (m ((c.tc : Thread nD τ).loc main_arg0)) R) (row (m ((c.tc : Thread nD τ).loc main_arg1)) l) : ℝ) : EReal) := by
  refine tile_gauss _ _ r l _ _ (fun k => ?_) (fun k => ?_)
  · have e : (win0_0.blk t).view.emb (ix2 r k) = ix2 R k := by
      blk_ext [index0]
    blk_simp [iblk]
    rw [e]
    exact h1 _
  · exact (whole_columns m c _ l k).trans (h2 _)

include h1 h2 in
theorem arr_first :
    (dats m 0 c).arrAt 2 cfg0.N = gaussMatrix (m ((c.tc : Thread nD τ).loc main_arg0)) (m ((c.tc : Thread nD τ).loc main_arg1)) := by
  refine (dats m 0 c).arrAt_eq_of_covers 2 _ (by decide +kernel) fun t hf y => ?_
  blk_simp
  rw [after0_2, after_point]
  obtain ⟨r, l, rfl⟩ : ∃ (r : Fin 512) (l : Fin 4096), y = ix2 r l := ⟨y 0, y 1, eq_ix2 y⟩
  have hN : t.val < 8 := lt_of_lt_of_eq t.isLt N_0
  have e : (win0_2.blk t).view.emb (ix2 r l) = ix2 (⟨512 * t.val + r.val, by have := r.isLt; omega⟩ : Fin 4096) l := by
    blk_ext [index2]
  rw [e]
  exact tile_entry m c h1 h2 t r l _ rfl

/-- Column `l` has no row up to `l` whose Gaussian with it reaches 1. -/
def Kept (x1 x2 : Vec Ideal S4096x256 .f32) (l : Fin 4096) : Prop := ∀ r : Fin 4096, r.val ≤ l.val → gauss (row x1 r) (row x2 l) < 1

/-- The second array, after the last point. -/
theorem arr_keep : (dats m 0 c).arrAt 3 cfg0.N = keepAt m c 7 (by decide) := by
  refine (dats m 0 c).arrAt_eq_of_covers 3 _ (by decide +kernel) fun t hf y => ?_
  have hN : t.val < 8 := lt_of_lt_of_eq t.isLt N_0
  have last : ∀ (n : ℕ) (h : n < cfg0.N), n = 7 → keepAt m c n h = keepAt m c 7 (by decide) := by
    rintro _ _ rfl
    rfl
  blk_simp
  rw [after0_3, after_point, last t.val t.isLt (by have := (flush0_3 t).1 hf; omega)]
  obtain ⟨r, l, rfl⟩ : ∃ (r : Fin 1) (l : Fin 4096), y = ix2 r l := ⟨y 0, y 1, eq_ix2 y⟩
  have e : (win0_3.blk t).view.emb (ix2 r l) = ix2 r l := by
    blk_ext [index3]
  rw [e]

include h1 h2 in
theorem arr_second (l : Fin 4096) : (dats m 0 c).arrAt 3 cfg0.N (ix2 0 l)
    = word (Kept (m ((c.tc : Thread nD τ).loc main_arg0)) (m ((c.tc : Thread nD τ).loc main_arg1)) l) := by
  rw [arr_keep, keepAt_eq]
  refine congrArg word (propext ⟨fun k R hR => ?_, fun k s hs _ => ?_⟩)
  · have hl := R.isLt
    have hs : R.val / 512 < cfg0.N := lt_of_lt_of_eq (by omega : R.val / 512 < 8) N_0.symm
    have hk := (maxima_lt _ _ _ _).1 (k (R.val / 512) hs (by omega)) ⟨R.val % 512, by omega⟩
      (by rw [coords_val]; show 512 * (R.val / 512) + R.val % 512 ≤ l.val; omega)
    rw [tile_entry m c h1 h2 ⟨R.val / 512, hs⟩ _ l R (by show R.val = 512 * (R.val / 512) + R.val % 512; omega)] at hk
    exact EReal.coe_lt_coe_iff.1 hk
  · have hN : s < 8 := lt_of_lt_of_eq hs N_0
    refine (maxima_lt _ _ _ _).2 fun r hr => ?_
    rw [coords_val] at hr
    rw [tile_entry m c h1 h2 ⟨s, hs⟩ r l ⟨512 * s + r.val, by have := r.isLt; omega⟩ rfl]
    exact EReal.coe_lt_coe_iff.2 (k _ hr)

end Arrays

end Cert.Proof.Ideal

end
-- ==== Proof.Ideal.Results.lean ====
module

public import proofs.«01_k».proof.Proof.Ideal.Value

/-! # What the kernel's two results hold after every run -/

@[expose] public section

noncomputable section

namespace Cert.Proof.Ideal

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The mask: 1 at the columns that are kept. -/
def mask (x1 x2 : Vec Ideal S4096x256 .f32) : IVec S4096 1 := fun i => open Classical in if Kept x1 x2 (i 0) then 1#1 else 0#1

/-- A keep word compared with 0. -/
theorem word_ne_zero (p : Prop) [Decidable p] : IntOp.cmpi CmpIPredicate.ne (word p) 0#32 = if p then 1#1 else 0#1 := by
  unfold word
  by_cases h : p
  · rw [if_pos h, if_pos h]; rfl
  · rw [if_neg h, if_neg h]; rfl

/-- The lines after the grid: the row of keep words as a vector, compared with 0. -/
theorem tail_value (W : Valuation τ sig (Elt Ideal)) :
    StableHlo.after hostOps1 W (Proc.devRef .tc main_v0_1)
      = cmpi .ne (shapeCast S4096 (W (Proc.devRef .tc main_call0_v0_1)) shapeCasts_S1x4096_S4096) (broadcastInDim S4096 ![] bcast_S_S4096 (constantI S_ 32 0#32)) := by
  after_results
  rfl

theorem mask_of_words (K : IVec S1x4096 32) (x1 x2 : Vec Ideal S4096x256 .f32) (h : ∀ l, K (ix2 0 l) = word (Kept x1 x2 l)) :
    cmpi .ne (shapeCast S4096 K shapeCasts_S1x4096_S4096) (broadcastInDim S4096 ![] bcast_S_S4096 (constantI S_ 32 0#32)) = mask x1 x2 := by
  funext i
  obtain ⟨l, rfl⟩ : ∃ l : Fin 4096, i = ix1 l := ⟨i 0, eq_ix1 i⟩
  pointwise [mask]
  rw [h]
  exact @word_ne_zero _ (Classical.propDecidable _)

theorem tail_mask (c : Dev nD)
    (h1 : ∀ i, m ((c.tc : Thread nD τ).loc main_arg0) i = ((EReal.toReal (m ((c.tc : Thread nD τ).loc main_arg0) i) : ℝ) : EReal))
    (h2 : ∀ i, m ((c.tc : Thread nD τ).loc main_arg1) i = ((EReal.toReal (m ((c.tc : Thread nD τ).loc main_arg1) i) : ℝ) : EReal)) :
    Pipeline.afterTail₀ cfgs (dats m) 0 (V0 m) [hostOps1] c main_v0_1
      = mask (m ((c.tc : Thread nD τ).loc main_arg0)) (m ((c.tc : Thread nD τ).loc main_arg1)) := by
  refine (tail_value _).trans (mask_of_words _ _ _ fun l => ?_)
  refine (congrFun (Pipeline.withArrays_arr spec0 (by decide) c (V0 m c) (fun w => (dats m 0 c).arrAt w cfg0.N) 3) (ix2 0 l)).trans ?_
  exact arr_second m c h1 h2 l

/-- After every run: the matrix, the mask, and the arguments as they were. -/
theorem run_results
    (hreal : ∀ c : Dev nD, (∀ i, m ((c.tc : Thread nD τ).loc main_arg0) i = ((EReal.toReal (m ((c.tc : Thread nD τ).loc main_arg0) i) : ℝ) : EReal))
      ∧ ∀ i, m ((c.tc : Thread nD τ).loc main_arg1) i = ((EReal.toReal (m ((c.tc : Thread nD τ).loc main_arg1) i) : ℝ) : EReal)) :
    θ_run (defs (F := Ideal)) (onTc (τ := τ) (main (F := Ideal))) ⟨m, fun _ => 0, ρ⟩ (fun r => ∀ c : Dev nD,
      r.2.mem ((c.tc : Thread nD τ).loc main_v0_0) = gaussMatrix (m ((c.tc : Thread nD τ).loc main_arg0)) (m ((c.tc : Thread nD τ).loc main_arg1))
      ∧ r.2.mem ((c.tc : Thread nD τ).loc main_v0_1) = mask (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (arr_first m c (hreal c).1 (hreal c).2),
      ((h.1 c).2 main_v0_1 (by decide)).trans (tail_mask m c (hreal c).1 (hreal c).2), h.2 c⟩)
    (θ_run_and (run_main m ρ) (unchanged m ρ))

end Cert.Proof.Ideal

end
-- ==== Proof.Ref.lean ====
module

public import proofs.«01_k».proof.Proof.Gen.ReferenceIdeal.Run
public import proofs.«01_k».proof.Proof.Gauss
public import proofs.«01_k».proof.Proof.Consts
public import Idealize.ShloMosaic.Lib.Pointwise

/-! # What the reference computes at an index -/

@[expose] public section

noncomputable section

namespace Cert.Proof.Ref

open Cert.ReferenceIdeal Cert.ReferenceIdeal.Gen
open Idealize.ShloMosaic Cert.Proof.Gauss

/-- The first result of the reference as a function of its two arguments. -/
def kernelMatrix (x1 x2 : FVec Ideal S4096x256 .f32) : FVec Ideal S4096x4096 .f32 :=
  Host.exp (mulf (broadcastInDim S4096x4096 ![] bcast_S_S4096x4096 (constant S_ .f32 0xBF000000#32))
    (maximumf (subf
      (addf
        (broadcastInDim S4096x4096 ![0, 1] bcast_S4096x1_S4096x4096_0_1 (broadcastInDim S4096x1 ![0] bcast_S4096_S4096x1_0
          (Host.reduceAdd (mulf x1 x1) (constant S_ .f32 0x00000000#32) reducesTo_S4096x256_S4096_d1 h_S_)))
        (broadcastInDim S4096x4096 ![0, 1] bcast_S1x4096_S4096x4096_0_1 (broadcastInDim S1x4096 ![1] bcast_S4096_S1x4096_1
          (Host.reduceAdd (mulf x2 x2) (constant S_ .f32 0x00000000#32) reducesTo_S4096x256_S4096_d1 h_S_))))
      (mulf (broadcastInDim S4096x4096 ![] bcast_S_S4096x4096 (constant S_ .f32 0x40000000#32))
        (Host.dotGeneral (φ₁ := .f32) (φ₂ := .f32) dot_S4096x256_S256x4096_S4096x4096_1_0_0_1_n_n none x1
          (transpose S256x4096 [1, 0] x2 transposes_S4096x256_S256x4096_1_0))))
      (broadcastInDim S4096x4096 ![] bcast_S_S4096x4096 (constant S_ .f32 0x00000000#32))))

/-- With finite entries, each entry is the Gaussian of the two rows. -/
theorem kernelMatrix_at (x1 x2 : FVec Ideal S4096x256 .f32) (r c : Fin 4096) (A B : Fin 256 → ℝ)
    (hA : ∀ k, x1 (ix2 r k) = A k) (hB : ∀ k, x2 (ix2 c k) = B k) :
    kernelMatrix x1 x2 (ix2 r c) = ((gauss A B : ℝ) : EReal) := by
  rw [← exp_form (fun k => x1 (ix2 r k)) (fun k => x2 (ix2 c k)) A B hA hB]
  pointwise [kernelMatrix, Consts.neg_half, Consts.two]

end Cert.Proof.Ref

end
-- ==== Proof.Claimed.lean ====
module

public import proofs.«01_k».proof.Defs
public import proofs.«01_k».proof.Proof.Ref
public import proofs.«01_k».proof.Proof.Words
public import Idealize.ShloMosaic.Lib.ReduceAll
public import Idealize.ShloMosaic.Lib.IndicatorCount

/-! # The columns of the mask that are claimed, and what the reference's mask is at one of them -/

@[expose] public section

noncomputable section

namespace Cert.Proof.Claimed

open Idealize.ShloMosaic

theorem facts : Cert.On_claimed.Facts := by
  constructor <;> decide

section

open Cert.ReferenceIdeal Cert.ReferenceIdeal.Gen

/-- The reference's second result from its first. -/
def referenceMask (K : FVec Ideal S4096x4096 .f32) : IVec S4096 1 :=
  cmpi .eq (Host.reduce IntOp.addi (extui 32 (andi (cmpf .olt (subf (broadcastInDim S4096x4096 ![] bcast_S_S4096x4096 (constant S_ .f32 0x3F800000#32)) K)
      (broadcastInDim S4096x4096 ![] bcast_S_S4096x4096 (constant S_ .f32 0x322BCC77#32)))
    (cmpi .sle (iotaInDim S4096x4096 32 0) (iotaInDim S4096x4096 32 1))) natLt_1_32) (constantI S_ 32 0#32) reducesTo_S4096x4096_S4096_d0 h_S_)
    (broadcastInDim S4096 ![] bcast_S_S4096 (constantI S_ 32 0#32))

end

/-- The tolerance as a number. -/
def tol : ℝ := EReal.toReal (Ideal.ofBits .f32 0x322BCC77#32)

theorem tol_eq : Ideal.ofBits .f32 0x322BCC77#32 = ((tol : ℝ) : EReal) := by
  simp [tol, Ideal.ofBits, Ideal.ieee, -EReal.coe_mul]

theorem tol_pos : 0 < tol := by
  simp [tol, Ideal.ofBits, Ideal.ieee, -EReal.coe_mul]

theorem ofBool_eq_one (p : Prop) [Decidable p] : BitVec.ofBool (decide p) = 1#1 ↔ p := by
  by_cases h : p
  · rw [decide_eq_true h]; exact ⟨fun _ => h, fun _ => rfl⟩
  · rw [decide_eq_false h]; exact ⟨fun e => absurd (show (0#1 : BitVec 1) = 1#1 from e) (by decide), fun k => absurd k h⟩

theorem ori_eq_one : ∀ a b : BitVec 1, IntOp.ori a b = 1#1 → a = 1#1 ∨ b = 1#1 := by decide

/-- A fold by `and` that is 1 met only 1s. -/
theorem fold_andi_eq_one {ι : Type} (f : ι → BitVec 1) (S : Finset ι) (h : S.fold IntOp.andi 1#1 f = 1#1) : ∀ k ∈ S, f k = 1#1 := by
  classical
  induction S using Finset.induction_on with
  | empty => exact fun k hk => absurd hk (Finset.notMem_empty k)
  | insert a S ha ih =>
    rw [Finset.fold_insert ha] at h
    obtain ⟨h1, h2⟩ := IntOp.andi_eq_one.1 h
    intro k hk
    rcases Finset.mem_insert.1 hk with rfl | hk
    · exact h1
    · exact ih h2 k hk

/-- In a claimed column an entry is at least 1, or below 1 by the tolerance at least, or below the diagonal. -/
theorem claimed_at [Cert.On_claimed.Facts] (K : FVec Ideal Cert.On_claimed.S4096x4096 .f32) (c : Fin 4096)
    (h : (Cert.On_claimed.fn_part1 (F := Ideal) K).2 (ix1 c) = 1#1) (r : Fin 4096) :
    (1 : EReal) ≤ K (ix2 r c) ∨ ((tol : ℝ) : EReal) ≤ 1 - K (ix2 r c) ∨ c.val < r.val := by
  unfold Cert.On_claimed.fn_part1 at h
  dsimp only at h
  pointwise [tol_eq] at h
  have e := fold_andi_eq_one _ _ h r (Finset.mem_univ r)
  rw [Words.cmpi_sgt _ _ (by have := r.isLt; omega) (by have := c.isLt; omega)] at e
  rcases ori_eq_one _ _ e with e | e
  · rcases ori_eq_one _ _ e with e | e
    · exact Or.inl ((ofBool_eq_one _).1 e)
    · exact Or.inr (Or.inl ((ofBool_eq_one _).1 e))
  · exact Or.inr (Or.inr ((ofBool_eq_one _).1 e))

/-- A count of at most 4096, as a word, compared with 0. -/
theorem count_eq_zero (n : ℕ) (h : n ≤ 4096) : IntOp.cmpi CmpIPredicate.eq (BitVec.ofNat 32 n) 0#32 = BitVec.ofBool (decide (n = 0)) := by
  show BitVec.ofBool (BitVec.ofNat 32 n == 0#32) = _
  refine congrArg BitVec.ofBool ?_
  rw [Bool.eq_iff_iff, beq_iff_eq, decide_eq_true_iff, ← BitVec.toNat_inj, BitVec.toNat_ofNat, BitVec.toNat_ofNat]
  omega

/-- The reference keeps a column exactly when no entry at a row up to the column's number comes closer to 1 than the tolerance. -/
theorem mask_at (K : FVec Ideal Cert.ReferenceIdeal.S4096x4096 .f32) (c : Fin 4096) :
    referenceMask K (ix1 c) = 1#1 ↔ ∀ r : Fin 4096, r.val ≤ c.val → ¬(1 - K (ix2 r c) < ((tol : ℝ) : EReal)) := by
  pointwise [referenceMask, tol_eq]
  rw [Idealize.ShloMosaic.IndicatorCount.fold_addi_setWidth_eq_card, count_eq_zero _ ((Finset.card_le_univ _).trans_eq (Fintype.card_fin 4096)), ofBool_eq_one,
    Finset.card_eq_zero, Finset.filter_eq_empty_iff]
  refine ⟨fun h r hr k => h (Finset.mem_univ r) (IntOp.andi_eq_one.2 ⟨(ofBool_eq_one _).2 k, ?_⟩), fun h r _ e => ?_⟩
  · rw [Words.cmpi_sle _ _ (by have := r.isLt; omega) (by have := c.isLt; omega)]
    exact (ofBool_eq_one _).2 hr
  · obtain ⟨e1, e2⟩ := IntOp.andi_eq_one.1 e
    rw [Words.cmpi_sle _ _ (by have := r.isLt; omega) (by have := c.isLt; omega)] at e2
    exact h r ((ofBool_eq_one _).1 e2) ((ofBool_eq_one _).1 e1)

/-- A matrix of real numbers, at a claimed column: the reference keeps it exactly when the entries at rows up to the
    column's number are below 1. -/
theorem mask_iff [Cert.On_claimed.Facts] (K : FVec Ideal Cert.ReferenceIdeal.S4096x4096 .f32) (c : Fin 4096) (g : Fin 4096 → ℝ)
    (hg : ∀ r, K (ix2 r c) = ((g r : ℝ) : EReal)) (h : (Cert.On_claimed.fn_part1 (F := Ideal) K).2 (ix1 c) = 1#1) :
    referenceMask K (ix1 c) = 1#1 ↔ ∀ r : Fin 4096, r.val ≤ c.val → g r < 1 := by
  have sub : ∀ r, (1 : EReal) - K (ix2 r c) = ((1 - g r : ℝ) : EReal) := fun r => by rw [hg r]; rfl
  refine (mask_at K c).trans (forall_congr' fun r => imp_congr_right fun hr => ?_)
  have hc := claimed_at K c h r
  rw [sub r, hg r] at hc
  rw [sub r, EReal.coe_lt_coe_iff]
  refine ⟨fun k => ?_, fun k k' => ?_⟩
  · have := tol_pos
    linarith
  · rcases hc with hc | hc | hc
    · exact absurd (EReal.coe_le_coe_iff.1 (show ((1 : ℝ) : EReal) ≤ _ from hc)) (not_le.2 k)
    · have := EReal.coe_le_coe_iff.1 hc
      linarith
    · omega

end Cert.Proof.Claimed

end
-- ==== Proof.Finite.lean ====
module

public import proofs.«01_k».proof.Defs
public import proofs.«01_k».proof.Proof.Consts
public import Idealize.ShloMosaic.Lib.Pointwise
public import Idealize.ShloMosaic.Lib.ReduceAll

/-! # What the precondition says: every entry of both arguments is a real number -/

@[expose] public section

noncomputable section

namespace Cert.Proof.Finite

open Idealize.ShloMosaic Cert.Pre_finite

theorem facts : Cert.Pre_finite.Facts := by
  constructor <;> decide

instance : Subsingleton S_.Idx := ⟨fun a b => funext fun i => i.elim0⟩

theorem real_of_abs_lt {x : EReal} (h : BitVec.ofBool (decide (max x (-x) < ⊤)) = 1#1) : x = (x.toReal : EReal) := by
  have h1 : max x (-x) < ⊤ := by
    by_contra hn
    simp [hn] at h
  have ht : x ≠ ⊤ := fun e => by simp [e] at h1
  have hb : x ≠ ⊥ := fun e => by simp [e] at h1
  exact (EReal.coe_toReal ht hb).symm

/-- If the precondition holds, every entry is the real number it denotes. -/
theorem of_pre [Cert.Pre_finite.Facts] (x1 x2 : FVec Ideal S4096x256 .f32) (h : fn (F := Ideal) x1 x2 = fun _ => 1#1) :
    (∀ i, x1 i = ((x1 i).toReal : EReal)) ∧ ∀ i, x2 i = ((x2 i).toReal : EReal) := by
  have h0 := congrFun h (Shape.Idx.first Facts.h_S_)
  obtain ⟨h1, h2⟩ := IntOp.andi_eq_one.1 h0
  have e1 := Host.reduce_andi_all _ _ _ _ _ h1
  have e2 := Host.reduce_andi_all _ _ _ _ _ h2
  refine ⟨fun i => ?_, fun i => ?_⟩
  · have := e1 i
    pointwise [Consts.infinity] at this
    exact real_of_abs_lt this
  · have := e2 i
    pointwise [Consts.infinity] at this
    exact real_of_abs_lt this

end Cert.Proof.Finite

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel.Frame
public import proofs.«01_k».proof.Proof.Gen.KernelIdeal.Frame
public import proofs.«01_k».proof.Proof.Ideal.Results
public import proofs.«01_k».proof.Proof.Claimed
public import proofs.«01_k».proof.Proof.Ref
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-! ## The frames -/

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-! ## The named constants -/

theorem preserves : Cert.preserves_Kernel_KernelIdeal :=
  ⟨IdealRules.named_const.statement Cert.KernelIdeal.κ "neg_half_log2e" .f32 0xBF38AA3B#32 ((-(2⁻¹ * (Real.log 2)⁻¹) : ℝ) : EReal) rfl,
   IdealRules.named_const.statement Cert.KernelIdeal.κ "log2e" .f32 0x3FB8AA3B#32 (((Real.log 2)⁻¹ : ℝ) : EReal) rfl⟩

/-! ## The results -/

/-- On real entries the reference's first result is the matrix of Gaussians. -/
theorem reference_first (x1 x2 : FVec Ideal Cert.KernelIdeal.S4096x256 .f32) (h1 : ∀ i, x1 i = ((x1 i).toReal : EReal)) (h2 : ∀ i, x2 i = ((x2 i).toReal : EReal)) :
    Ref.kernelMatrix x1 x2 = Ideal.gaussMatrix x1 x2 := by
  funext j
  rw [eq_ix2 j]
  exact Ref.kernelMatrix_at x1 x2 _ _ _ _ (fun k => h1 _) (fun k => h2 _)

/-- A bit is 1 exactly when the proposition holds: the bit of the proposition. -/
theorem bit_eq (b : BitVec 1) (p : Prop) (h : b = 1#1 ↔ p) : b = open Classical in if p then 1#1 else 0#1 := by
  by_cases hp : p
  · rw [if_pos hp]; exact h.2 hp
  · rw [if_neg hp]
    have h0 : ∀ b : BitVec 1, b ≠ 1#1 → b = 0#1 := by decide
    exact h0 b fun e => hp (h.1 e)

/-- At a claimed column the reference's second result is the kernel's mask. -/
theorem reference_second (x1 x2 : FVec Ideal Cert.KernelIdeal.S4096x256 .f32) (h1 : ∀ i, x1 i = ((x1 i).toReal : EReal)) (h2 : ∀ i, x2 i = ((x2 i).toReal : EReal))
    (i : Cert.KernelIdeal.S4096.Idx) (hi : (@Cert.On_claimed.fn Claimed.facts Ideal _ x1 x2).2 i = 1#1) :
    Claimed.referenceMask (Ref.kernelMatrix x1 x2) i = Ideal.mask x1 x2 i := by
  obtain ⟨l, rfl⟩ : ∃ l : Fin 4096, i = ix1 l := ⟨i 0, eq_ix1 i⟩
  exact bit_eq _ _ (@Claimed.mask_iff Claimed.facts (Ref.kernelMatrix x1 x2) l _
    (fun r => Ref.kernelMatrix_at x1 x2 r l _ _ (fun k => h1 _) (fun k => h2 _)) hi)

theorem algebraic :
    Cert.algebraic_KernelIdeal_ReferenceIdeal_on_claimed_pre_finite (hPre_finite := Finite.facts) (hOn_claimed := Claimed.facts) := by
  intro m ρ m' ρ' hpre hagree
  have hreal := fun c => @Finite.of_pre Finite.facts _ _ (hpre c)
  refine ⟨fun c => Ideal.gaussMatrix (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Ideal.mask (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨fun i _ => congrFun (h c).1 i, fun i _ => congrFun (h c).2.1 i, (h c).2.2⟩) (Ideal.run_results m ρ hreal)
  · refine (θ_run Cert.ReferenceIdeal.defs _ _).mono (fun _ h c => ⟨fun i _ => ?_, fun i hi => ?_, (h c).2.2⟩)
      (Cert.ReferenceIdeal.Value.run (F := Ideal) m' ρ')
    · refine congrFun ((h c).1.trans ?_) i
      rw [(hagree c).1, (hagree c).2]
      exact reference_first _ _ (hreal c).1 (hreal c).2
    · refine (congrFun (h c).2.1 i).trans ?_
      rw [(hagree c).1, (hagree c).2]
      exact reference_second _ _ (hreal c).1 (hreal c).2 i hi

theorem claim : Cert.Claim :=
  ⟨Cert.Kernel.Gen.facts, Cert.KernelIdeal.Gen.facts, Cert.ReferenceIdeal.Gen.facts, Finite.facts, Claimed.facts,
    frame_kernel, frame_kernelIdeal, fun m ρ _ => frame_kernelIdeal m ρ trivial, frame_referenceIdeal,
    fun m ρ _ => frame_referenceIdeal m ρ trivial, preserves, algebraic⟩

end Cert.Proof

end
